-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x1x2560 : Shape := ⟨3, ![1536, 1, 2560]⟩
abbrev S320x9728 : Shape := ⟨2, ![320, 9728]⟩
abbrev S80x9728 : Shape := ⟨2, ![80, 9728]⟩
abbrev S80x1216 : Shape := ⟨2, ![80, 1216]⟩
abbrev S1536x2560 : Shape := ⟨2, ![1536, 2560]⟩
abbrev S_ : Shape := ⟨0, ![]⟩
abbrev S80x1280 : Shape := ⟨2, ![80, 1280]⟩
abbrev S1536x9728 : Shape := ⟨2, ![1536, 9728]⟩
abbrev S320x512 : Shape := ⟨2, ![320, 512]⟩
abbrev S80x512 : Shape := ⟨2, ![80, 512]⟩
abbrev S1536x512 : Shape := ⟨2, ![1536, 512]⟩
abbrev S2560x512 : Shape := ⟨2, ![2560, 512]⟩
abbrev S80x128 : Shape := ⟨2, ![80, 128]⟩
abbrev S80x128x1 : Shape := ⟨3, ![80, 128, 1]⟩
abbrev S320x8x512 : Shape := ⟨3, ![320, 8, 512]⟩
abbrev S320x1x512 : Shape := ⟨3, ![320, 1, 512]⟩
abbrev S1x512 : Shape := ⟨2, ![1, 512]⟩
abbrev S32x512 : Shape := ⟨2, ![32, 512]⟩

abbrev nBuf : Space → Nat
  | .hbm => 9
  | .vmem => 9
  | .smem => 0
  | _ => 0

abbrev bufTy : (tb : Table) → Fin (tcTables nBuf tb) → BufTy
  | .hbm, ⟨0, _⟩ => ⟨S1536x1x2560, .bf16⟩
  | .hbm, ⟨1, _⟩ => ⟨S320x9728, .i32⟩
  | .hbm, ⟨2, _⟩ => ⟨S80x9728, .bf16⟩
  | .hbm, ⟨3, _⟩ => ⟨S80x1216, .i32⟩
  | .hbm, ⟨4, _⟩ => ⟨S1536x2560, .bf16⟩
  | .hbm, ⟨5, _⟩ => ⟨S_, .i32⟩
  | .hbm, ⟨6, _⟩ => ⟨S_, .i32⟩
  | .hbm, ⟨7, _⟩ => ⟨S80x1280, .i32⟩
  | .hbm, ⟨8, _⟩ => ⟨S1536x9728, .bf16⟩
  | .local _ .vmem, ⟨0, _⟩ => ⟨S1536x2560, .bf16⟩
  | .local _ .vmem, ⟨1, _⟩ => ⟨S320x512, .i32⟩
  | .local _ .vmem, ⟨2, _⟩ => ⟨S320x512, .i32⟩
  | .local _ .vmem, ⟨3, _⟩ => ⟨S80x512, .bf16⟩
  | .local _ .vmem, ⟨4, _⟩ => ⟨S80x512, .bf16⟩
  | .local _ .vmem, ⟨5, _⟩ => ⟨S80x1280, .i32⟩
  | .local _ .vmem, ⟨6, _⟩ => ⟨S1536x512, .bf16⟩
  | .local _ .vmem, ⟨7, _⟩ => ⟨S1536x512, .bf16⟩
  | .local _ .vmem, ⟨8, _⟩ => ⟨S2560x512, .bf16⟩
  | _, _ => ⟨S1536x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![19], ![false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c128_i32 : BitVec 32 := 128#32
  let v17 : BitVec 32 := Scalar.muli v16 c128_i32
  v17
def k0_off1 (i : grid0.Coords) : Fin 2 → Nat :=
  let c0 : Index := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c128_i32 : BitVec 32 := 128#32
  let v17 : BitVec 32 := Scalar.muli v16 c128_i32
  let v18 : BitVec 32 := v17
  let v19 : Index := Scalar.indexCast v18
  ![0, v19.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S320x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S80x1280 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1536x1x2560 : Shape := ⟨3, ![1536, 1, 2560]⟩
abbrev S320x9728 : Shape := ⟨2, ![320, 9728]⟩
abbrev S80x9728 : Shape := ⟨2, ![80, 9728]⟩
abbrev S80x1216 : Shape := ⟨2, ![80, 1216]⟩
abbrev S8 : Shape := ⟨1, ![8]⟩
abbrev S_ : Shape := ⟨0, ![]⟩
abbrev S80x1216x1 : Shape := ⟨3, ![80, 1216, 1]⟩
abbrev S1x1x8 : Shape := ⟨3, ![1, 1, 8]⟩
abbrev S80x1216x8 : Shape := ⟨3, ![80, 1216, 8]⟩
abbrev S1x320x9728 : Shape := ⟨3, ![1, 320, 9728]⟩
abbrev S8x1x1 : Shape := ⟨3, ![8, 1, 1]⟩
abbrev S8x320x9728 : Shape := ⟨3, ![8, 320, 9728]⟩
abbrev S8x80x4x9728 : Shape := ⟨4, ![8, 80, 4, 9728]⟩
abbrev S1x80x1x9728 : Shape := ⟨4, ![1, 80, 1, 9728]⟩
abbrev S2560x9728 : Shape := ⟨2, ![2560, 9728]⟩
abbrev S1536x1x320x8 : Shape := ⟨4, ![1536, 1, 320, 8]⟩
abbrev S1536x1x8x320 : Shape := ⟨4, ![1536, 1, 8, 320]⟩
abbrev S1536x1x9728 : Shape := ⟨3, ![1536, 1, 9728]⟩
abbrev S1536x9728 : Shape := ⟨2, ![1536, 9728]⟩

abbrev nBuf : Space → Nat
  | .hbm => 41
  | .vmem => 0
  | .smem => 0
  | _ => 0

abbrev bufTy : (tb : Table) → Fin (tcTables nBuf tb) → BufTy
  | .hbm, ⟨0, _⟩ => ⟨S1536x1x2560, .bf16⟩
  | .hbm, ⟨1, _⟩ => ⟨S320x9728, .i32⟩
  | .hbm, ⟨2, _⟩ => ⟨S80x9728, .bf16⟩
  | .hbm, ⟨3, _⟩ => ⟨S80x1216, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S80x1216x1, .i32⟩
  | .hbm, ⟨9, _⟩ => ⟨S1x1x8, .i32⟩
  | .hbm, ⟨10, _⟩ => ⟨S80x1216x8, .i32⟩
  | .hbm, ⟨11, _⟩ => ⟨S80x1216x8, .i32⟩
  | .hbm, ⟨12, _⟩ => ⟨S80x1216x8, .i32⟩
  | .hbm, ⟨13, _⟩ => ⟨S_, .i32⟩
  | .hbm, ⟨14, _⟩ => ⟨S80x1216x8, .i32⟩
  | .hbm, ⟨15, _⟩ => ⟨S80x1216x8, .i32⟩
  | .hbm, ⟨16, _⟩ => ⟨S80x9728, .i32⟩
  | .hbm, ⟨17, _⟩ => ⟨S80x9728, .bf16⟩
  | .hbm, ⟨18, _⟩ => ⟨S1x320x9728, .i32⟩
  | .hbm, ⟨19, _⟩ => ⟨S8x1x1, .i32⟩
  | .hbm, ⟨20, _⟩ => ⟨S8x320x9728, .i32⟩
  | .hbm, ⟨21, _⟩ => ⟨S8x320x9728, .i32⟩
  | .hbm, ⟨22, _⟩ => ⟨S8x320x9728, .i32⟩
  | .hbm, ⟨23, _⟩ => ⟨S_, .i32⟩
  | .hbm, ⟨24, _⟩ => ⟨S8x320x9728, .i32⟩
  | .hbm, ⟨25, _⟩ => ⟨S8x320x9728, .i32⟩
  | .hbm, ⟨26, _⟩ => ⟨S8x320x9728, .bf16⟩
  | .hbm, ⟨27, _⟩ => ⟨S8x80x4x9728, .bf16⟩
  | .hbm, ⟨28, _⟩ => ⟨S1x80x1x9728, .bf16⟩
  | .hbm, ⟨29, _⟩ => ⟨S8x80x4x9728, .bf16⟩
  | .hbm, ⟨30, _⟩ => ⟨S8x80x4x9728, .bf16⟩
  | .hbm, ⟨31, _⟩ => ⟨S1x80x1x9728, .bf16⟩
  | .hbm, ⟨32, _⟩ => ⟨S8x80x4x9728, .bf16⟩
  | .hbm, ⟨33, _⟩ => ⟨S8x80x4x9728, .bf16⟩
  | .hbm, ⟨34, _⟩ => ⟨S2560x9728, .bf16⟩
  | .hbm, ⟨35, _⟩ => ⟨S1536x1x320x8, .bf16⟩
  | .hbm, ⟨36, _⟩ => ⟨S1536x1x8x320, .bf16⟩
  | .hbm, ⟨37, _⟩ => ⟨S1536x1x2560, .bf16⟩
  | .hbm, ⟨38, _⟩ => ⟨S1536x1x9728, .f32⟩
  | .hbm, ⟨39, _⟩ => ⟨S1536x1x9728, .bf16⟩
  | .hbm, ⟨40, _⟩ => ⟨S1536x9728, .bf16⟩
  | _, _ => ⟨S1536x1x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Proof.Spec.lean ====
/- The layer both programs compute, as one function of the arguments, and the facts about 32-bit words it rests on.
   A word holds eight 4-bit codes, lowest first. The weight of input channel `k` and output channel `n` is the code's
   difference from the group's zero point, times the group's scale; 32 consecutive input channels make a group. -/
module

public import Idealize.ShloMosaic.Lib.ValueIdx
public import Idealize.ShloMosaic.Lib.Pipeline.Value
public import Idealize.ShloMosaic.PureOps.Ideal.Laws

@[expose] public section

noncomputable section

namespace Cert.Layer

open Idealize.ShloMosaic Idealize.ShloMosaic.ValueIdx

/-! ## Codes in a word -/

/-- The `p`-th 4-bit code of a word, lowest first. -/
def nib (w : BitVec 32) (p : ℕ) : ℕ := (w.extractLsb' (4 * p) 4).toNat

theorem nib_lt (w : BitVec 32) (p : ℕ) : nib w p < 16 := (w.extractLsb' (4 * p) 4).isLt

/-- Shifting the word right by `4 p` and keeping the low four bits reads code `p`. -/
theorem shift_and_toInt (w : BitVec 32) (p : ℕ) (hp : p < 8) :
    (w.sshiftRight (4 * p) &&& 15#32).toInt = (nib w p : ℤ) := by
  have h : w.sshiftRight (4 * p) &&& 15#32 = (w.extractLsb' (4 * p) 4).setWidth 32 := by
    ext i hi
    simp only [BitVec.getElem_and, BitVec.getElem_setWidth, BitVec.getElem_sshiftRight]
    by_cases h4 : i < 4
    · have hs : 4 * p + i < 32 := by omega
      have h15 : (15#32)[i] = true := by
        have : ∀ j : Fin 4, (15#32).getLsbD j.val = true := by decide
        rw [← BitVec.getLsbD_eq_getElem]; exact this ⟨i, h4⟩
      rw [dif_pos hs, h15, Bool.and_true, BitVec.getLsbD_extractLsb', decide_eq_true h4, Bool.true_and,
        BitVec.getLsbD_eq_getElem hs]
    · have h15 : (15#32)[i] = false := by
        have : ∀ j : Fin 32, ¬ j.val < 4 → (15#32).getLsbD j.val = false := by decide
        rw [← BitVec.getLsbD_eq_getElem]; exact this ⟨i, hi⟩ h4
      rw [h15, Bool.and_false, BitVec.getLsbD_of_ge _ _ (by omega)]
  have hn : (w.extractLsb' (4 * p) 4).toNat < 16 := nib_lt w p
  have e : ((w.extractLsb' (4 * p) 4).setWidth 32).toNat = nib w p := by
    rw [BitVec.toNat_setWidth, Nat.mod_eq_of_lt (lt_trans hn (by norm_num))]; rfl
  rw [h, BitVec.toInt_eq_toNat_of_lt, e]
  rw [e]; have := nib_lt w p; omega

theorem flip_toInt : ∀ x : BitVec 4, (x ^^^ 8#4).toInt = (x.toNat : ℤ) - 8 := by decide

/-- Flipping the top bit of every code, moving code `p` to the top of the word, shifting it back down with its sign and
    keeping the low four bits reads code `p`, minus eight. -/
theorem flip_shift_toInt (w : BitVec 32) (p : ℕ) (hp : p < 8) :
    (((((w ^^^ 2290649224#32) <<< (28 - 4 * p)).sshiftRight 28).setWidth 4 : BitVec 4)).toInt = (nib w p : ℤ) - 8 := by
  have h : ((((w ^^^ 2290649224#32) <<< (28 - 4 * p)).sshiftRight 28).setWidth 4 : BitVec 4)
      = (w.extractLsb' (4 * p) 4) ^^^ 8#4 := by
    ext i hi
    have hs : 28 + i < 32 := by omega
    have hc : ∀ q : Fin 8, ∀ j : Fin 4, (2290649224#32).getLsbD (4 * q.val + j.val) = (8#4).getLsbD j.val := by decide
    rw [BitVec.getElem_setWidth, BitVec.getLsbD_sshiftRight, BitVec.getElem_xor]
    have e : 28 + i - (28 - 4 * p) = 4 * p + i := by omega
    rw [if_pos hs, BitVec.getLsbD_shiftLeft, e, BitVec.getLsbD_xor, hc ⟨p, hp⟩ ⟨i, hi⟩, BitVec.getElem_extractLsb',
      BitVec.getLsbD_eq_getElem hi]
    have h1 : ¬ 28 + i < 28 - 4 * p := by omega
    have h2 : ¬ 32 ≤ i := by omega
    simp [h1, h2, hs]
  rw [h, flip_toInt]; rfl

/-! ## The layer -/

/-- The weight of input channel `k` and output channel `n`. -/
def weight (q : (⟨2, ![320, 9728]⟩ : Shape).Idx → BitVec 32) (s : (⟨2, ![80, 9728]⟩ : Shape).Idx → EReal)
    (z : (⟨2, ![80, 1216]⟩ : Shape).Idx → BitVec 32) (k : Fin 2560) (n : Fin 9728) : EReal :=
  ((((nib (q (ix2 (⟨k.val / 8, by omega⟩ : Fin 320) n)) (k.val % 8) : ℤ)
      - (nib (z (ix2 (⟨k.val / 32, by omega⟩ : Fin 80) (⟨n.val / 8, by omega⟩ : Fin 1216))) (n.val % 8) : ℤ) : ℤ) : ℝ) : EReal)
    * s (ix2 (⟨k.val / 32, by omega⟩ : Fin 80) n)

/-- The layer's output: row `b`, channel `n` is the sum over the input channels of input times weight. -/
def layer (x : (⟨3, ![1536, 1, 2560]⟩ : Shape).Idx → EReal) (q : (⟨2, ![320, 9728]⟩ : Shape).Idx → BitVec 32)
    (s : (⟨2, ![80, 9728]⟩ : Shape).Idx → EReal) (z : (⟨2, ![80, 1216]⟩ : Shape).Idx → BitVec 32)
    (i : (⟨2, ![1536, 9728]⟩ : Shape).Idx) : EReal :=
  ∑ k : Fin 2560, x (ix3 (i 0) (0 : Fin 1) k) * weight q s z k (i 1)

/-! ## The order in which the reference sums the input channels -/

/-- The reference takes channel `8 r + p` as its `320 p + r`-th. -/
def channel : Fin 2560 ≃ Fin 2560 where
  toFun k := ⟨8 * (k.val % 320) + k.val / 320, by omega⟩
  invFun k := ⟨320 * (k.val % 8) + k.val / 8, by omega⟩
  left_inv k := by ext; simp only; omega
  right_inv k := by ext; simp only; omega

end Cert.Layer

end
-- ==== Proof.Codes.lean ====
/- The weight codes of a block of 512 output channels, as the kernel unpacks them: each word is laid out eight times, one
   copy for each of its codes, every copy is shifted so that its code keeps its sign, and the copies are read as rows. -/
module

public import proofs.«01_k».proof.Proof.Spec
public import proofs.«01_k».proof.Proof.Gen.KernelIdeal.Skeleton

@[expose] public section

noncomputable section

namespace Cert.Codes

open Idealize.ShloMosaic Idealize.ShloMosaic.ValueIdx Cert.KernelIdeal Cert.KernelIdeal.Gen Cert.Layer

/-- The codes the kernel unpacks for a block, from the block's words. -/
def codes (q : Vec Ideal S320x512 .i32) : FVec Ideal S2560x512 .bf16 :=
  k0_pay24 (F := Ideal) (k0_pay23 (F := Ideal) q) (iota Kind.tc S320x8x512 32 [1] iota_S320x8x512_d1_w32)

/-- The kernel moves code `p` to the top of the word. -/
theorem up_toNat : ∀ p : Fin 8, (28#32 - 4#32 * BitVec.ofNat 32 p.val).toNat = 28 - 4 * p.val := by decide

theorem codes_apply (q : Vec Ideal S320x512 .i32) (k : Fin 2560) (n : Fin 512) :
    codes q (ix2 k n) = ((((nib (q (ix2 (⟨k.val / 8, by omega⟩ : Fin 320) n)) (k.val % 8) : ℤ) : ℝ) - 8 : ℝ) : EReal) := by
  have hk : k.val % 8 < 8 := Nat.mod_lt _ (by norm_num)
  unfold codes k0_pay24 k0_pay23
  dsimp only
  show (((BitVec.setWidth 4 (shapeCast S2560x512 _ shapeCasts_S320x8x512_S2560x512 (ix2 k n)) : BitVec 4).toInt : ℝ) : EReal) = _
  rw [shapeCast_apply _ shapeCasts_S320x8x512_S2560x512 (ix2 k n)
    (ix3 (⟨k.val / 8, by omega⟩ : Fin 320) (⟨k.val % 8, hk⟩ : Fin 8) n) (by
      rw [Shape.rowMajor_val_three, Shape.rowMajor_val_two]
      show (k.val / 8 * 8 + k.val % 8) * 512 + n.val = k.val * 512 + n.val
      omega)]
  show (((BitVec.setWidth 4 (IntOp.shrsi .vector (IntOp.shli .vector
      (broadcastTo S320x8x512 (shapeCast S320x1x512 _ shapeCasts_S320x512_S320x1x512) _ _)
      (28#32 - 4#32 * (iota Kind.tc S320x8x512 32 [1] iota_S320x8x512_d1_w32 _))) 28#32) : BitVec 4).toInt : ℝ) : EReal) = _
  rw [iota_single_apply,
    broadcastTo_apply _ _ _ (ix3 (⟨k.val / 8, by omega⟩ : Fin 320) (0 : Fin 1) n) (fun b => by
      match b with
      | ⟨0, _⟩ => rfl
      | ⟨1, _⟩ => rfl
      | ⟨2, _⟩ => rfl),
    shapeCast_apply _ shapeCasts_S320x512_S320x1x512 _ (ix2 (⟨k.val / 8, by omega⟩ : Fin 320) n) (by
      rw [Shape.rowMajor_val_three, Shape.rowMajor_val_two]
      show k.val / 8 * 512 + n.val = (k.val / 8 * 1 + 0) * 512 + n.val
      omega)]
  have e := up_toNat ⟨k.val % 8, hk⟩
  have hs : IntOp.shli .vector (q (ix2 (⟨k.val / 8, by omega⟩ : Fin 320) n) ^^^ 2290649224#32)
      (28#32 - 4#32 * BitVec.ofNat 32 (k.val % 8))
      = (q (ix2 (⟨k.val / 8, by omega⟩ : Fin 320) n) ^^^ 2290649224#32) <<< (28 - 4 * (k.val % 8)) := by
    unfold IntOp.shli
    rw [if_pos (by rw [e]; simp only; omega)]
    rw [BitVec.shiftLeft_eq', e]
  show (((BitVec.setWidth 4 (BitVec.sshiftRight (IntOp.shli .vector (q _ ^^^ 2290649224#32)
      (28#32 - 4#32 * BitVec.ofNat 32 (k.val % 8))) 28) : BitVec 4).toInt : ℝ) : EReal) = _
  rw [hs, flip_shift_toInt _ _ hk]
  push_cast
  rfl

end Cert.Codes

end
-- ==== Proof.Zeros.lean ====
/- The zero points of a block of 512 output channels, as the kernel unpacks them: tile by tile of 128 channels it gathers
   the words that hold the tile's codes out of 128 words, shifts each channel's code down and keeps four bits; eight is
   taken off at the end. -/
module

public import proofs.«01_k».proof.Proof.Spec
public import proofs.«01_k».proof.Proof.Gen.KernelIdeal.Skeleton

@[expose] public section

noncomputable section

namespace Cert.Zeros

open Idealize.ShloMosaic Idealize.ShloMosaic.ValueIdx Cert.KernelIdeal Cert.KernelIdeal.Gen Cert.Layer

/-- The channel number within a tile. -/
def lane : IVec S80x128 32 := iota .tc S80x128 32 [1] iota_S80x128_d1_w32

/-- A vector of one word. -/
def splat (b : BitVec 32) : IVec S80x128 32 := broadcast S80x128 b

/-- Where the first word of the block's zero points lies in the 128 words read: at word 0 or 64 by the block's parity. -/
def base (i : grid0.Coords) : BitVec 32 :=
  let r : BitVec 32 := Scalar.remsi (BitVec.ofNat 32 (i 0).val) 2#32
  Scalar.muli (Scalar.select (Scalar.andi (Scalar.xori (Scalar.cmpi .slt r 0#32) (Scalar.cmpi .slt 2#32 0#32))
    (Scalar.cmpi .ne r 0#32)) (Scalar.addi r 2#32) r) 64#32

theorem base_eq (i : grid0.Coords) : base i = BitVec.ofNat 32 (64 * ((i 0).val % 2)) := by
  unfold base
  generalize i 0 = j
  revert j
  show ∀ j : Fin 19, _
  decide +kernel

/-- The word each channel of a tile takes its code from, the tile's first word being `b`. -/
def words (b : BitVec 32) : IVec S80x128 32 :=
  have q : IVec S80x128 32 := divsi lane (splat 8#32)
  have sg : IVec S80x128 32 := subi (extui 32 (cmpi .sgt lane (splat 0#32)) natLt_1_32) (extui 32 (cmpi .slt lane (splat 0#32)) natLt_1_32)
  have s8 : BitVec 32 := Scalar.subi (Scalar.extui (Scalar.cmpi .sgt 8#32 0#32)) (Scalar.extui (Scalar.cmpi .slt 8#32 0#32))
  have c : IVec S80x128 1 := andi (cmpi .ne sg (splat s8)) (cmpi .ne (remsi lane (splat 8#32)) (splat 0#32))
  have w : IVec S80x128 32 := addi (splat b) (select c (subi q (splat 1#32)) q)
  select (cmpi .slt w (splat 0#32)) (addi w (splat 128#32)) w

/-- The number of each channel's code within its word. -/
def places : IVec S80x128 32 :=
  have d : BitVec 32 := Scalar.select (Scalar.cmpi .eq 8#32 0#32) 1#32 8#32
  have r : IVec S80x128 32 := remsi lane (splat d)
  have sg : IVec S80x128 1 := xori (cmpi .slt r (splat 0#32))
    (broadcastTo S80x128 (broadcast S80x128 (Scalar.cmpi .slt d 0#32) : IVec S80x128 1) broadcasts_S80x128_S80x128)
  select (andi sg (cmpi .ne r (splat 0#32))) (addi r (splat d)) r

/-- One tile's codes, from the 128 words read. -/
def tile (zw : IVec S80x128 32) (b : BitVec 32) : IVec S80x128 32 :=
  andi (shrsi (dynamicGather 1 zw (shapeCast S80x128 (shapeCast S80x128x1 (words b) shapeCasts_S80x128_S80x128x1)
    shapeCasts_S80x128x1_S80x128)) (muli (splat 4#32) places)) (splat 15#32)

theorem words_row (b : BitVec 32) (g : Fin 80) (l : Fin 128) : words b (ix2 g l) = words b (ix2 (0 : Fin 80) l) := rfl
theorem places_row (g : Fin 80) (l : Fin 128) : places (ix2 g l) = places (ix2 (0 : Fin 80) l) := rfl

/-- Channel `l` of the tile takes its code from word `l / 8` past the tile's first … -/
theorem words_eq : ∀ (h : Fin 2) (t : Fin 4) (l : Fin 128),
    (words (Scalar.addi (BitVec.ofNat 32 (64 * h.val)) (BitVec.ofNat 32 (16 * t.val))) (ix2 (0 : Fin 80) l)).toNat % 128
      = 64 * h.val + (16 * t.val + l.val / 8) := by
  decide +kernel

/-- … and its code is the one numbered `l % 8` there. -/
theorem places_eq : ∀ l : Fin 128, (muli (splat 4#32) places (ix2 (0 : Fin 80) l)).toNat = 4 * (l.val % 8) := by
  decide +kernel

theorem tile_apply (zw : IVec S80x128 32) (h : Fin 2) (t : Fin 4) (g : Fin 80) (l : Fin 128) :
    (tile zw (Scalar.addi (BitVec.ofNat 32 (64 * h.val)) (BitVec.ofNat 32 (16 * t.val))) (ix2 g l)).toInt
      = (nib (zw (ix2 g (⟨64 * h.val + (16 * t.val + l.val / 8), by omega⟩ : Fin 128))) (l.val % 8) : ℤ) := by
  generalize hb : Scalar.addi (BitVec.ofNat 32 (64 * h.val)) (BitVec.ofNat 32 (16 * t.val)) = b
  have e1 : shapeCast S80x128 (shapeCast S80x128x1 (words b) shapeCasts_S80x128_S80x128x1)
      shapeCasts_S80x128x1_S80x128 (ix2 g l) = words b (ix2 (0 : Fin 80) l) := by
    rw [shapeCast_apply _ shapeCasts_S80x128x1_S80x128 (ix2 g l) (ix3 g l (0 : Fin 1)) (by
        rw [Shape.rowMajor_val_three, Shape.rowMajor_val_two]; show (g.val * 128 + l.val) * 1 + 0 = g.val * 128 + l.val; omega),
      shapeCast_apply _ shapeCasts_S80x128_S80x128x1 (ix3 g l (0 : Fin 1)) (ix2 g l) (by
        rw [Shape.rowMajor_val_three, Shape.rowMajor_val_two]; show g.val * 128 + l.val = (g.val * 128 + l.val) * 1 + 0; omega),
      words_row]
  have e2 := words_eq h t l
  rw [hb] at e2
  have e3 : dynamicGather 1 zw (shapeCast S80x128 (shapeCast S80x128x1 (words b) shapeCasts_S80x128_S80x128x1)
      shapeCasts_S80x128x1_S80x128) (ix2 g l) = zw (ix2 g (⟨64 * h.val + (16 * t.val + l.val / 8), by omega⟩ : Fin 128)) := by
    rw [← e1] at e2
    unfold dynamicGather
    congr 1
    funext a
    match a with
    | ⟨0, _⟩ => rfl
    | ⟨1, _⟩ => exact Fin.ext e2
  have e4 : muli (splat 4#32) places (ix2 g l) = muli (splat 4#32) places (ix2 (0 : Fin 80) l) :=
    congrArg (IntOp.muli 4#32) (places_row g l)
  show (IntOp.andi (IntOp.shrsi .vector (dynamicGather 1 zw _ (ix2 g l)) (muli (splat 4#32) places (ix2 g l))) 15#32).toInt = _
  rw [e3, e4]
  have e5 := places_eq l
  rw [← shift_and_toInt _ (l.val % 8) (Nat.mod_lt _ (by norm_num))]
  unfold IntOp.shrsi
  rw [if_pos (by rw [e5]; omega)]
  show (BitVec.sshiftRight' _ _ &&& 15#32).toInt = _
  rw [BitVec.sshiftRight', e5]

/-- The zero points the kernel unpacks for a block, from the 128 words it reads of each group. -/
def zeros (i : grid0.Coords) (zw : Vec Ideal S80x128 .i32) : FVec Ideal S80x512 .bf16 :=
  k0_pay22 (k0_pay3 zw) lane
    (k0_pay9 (k0_pay6 (k0_pay3 zw) lane (Scalar.addi (base i) 0#32) 8#32 k0_pay4 k0_pay5) (k0_pay7 lane) k0_pay8)
    (k0_pay13 (k0_pay10 (k0_pay3 zw) lane (base i)) 8#32 (k0_pay11 lane) (k0_pay12 lane))
    (k0_pay17 (k0_pay3 zw) lane (k0_pay14 lane (base i)) (k0_pay15 lane (base i)) (k0_pay16 lane (base i)))
    (Scalar.addi (base i) 48#32) (k0_pay18 lane) (k0_pay19 lane) (k0_pay20 lane) k0_pay21

/-- They are the four tiles side by side, less eight. -/
theorem zeros_eq (i : grid0.Coords) (zw : Vec Ideal S80x128 .i32) :
    zeros i zw = truncf .bf16 (subf (sitofp .f32 (concatenate S80x512 1
        (List.ofFn fun t : Fin 4 => (⟨S80x128, tile (shapeCast S80x128 zw shapeCasts_S80x128_S80x128)
          (Scalar.addi (base i) (BitVec.ofNat 32 (16 * t.val)))⟩ : (s : Shape) × (s.Idx → BitVec 32)))
        concatenates_S80x128_S80x128_S80x128_S80x128_S80x512_d1))
      (broadcast S80x512 (Scalar.ofBits .f32 0x41000000#32))) bitsLt_bf16_f32 := rfl

theorem eight : (Scalar.ofBits .f32 0x41000000#32 : Ideal .f32) = ((8 : ℝ) : EReal) := by
  show Ideal.ofBits .f32 0x41000000#32 = _
  simp [Ideal.ofBits, Ideal.ieee, -EReal.coe_mul]
  norm_num

theorem zeros_apply (i : grid0.Coords) (zw : Vec Ideal S80x128 .i32) (g : Fin 80) (n : Fin 512) :
    zeros i zw (ix2 g n) = ((((nib (zw (ix2 g (⟨64 * ((i 0).val % 2) + n.val / 8, by omega⟩ : Fin 128))) (n.val % 8) : ℤ) : ℝ)
      - 8 : ℝ) : EReal) := by
  have hc := concatenate_ofFn_apply (s₁ := S80x128) (t := S80x512) 1
    (fun t : Fin 4 => tile (shapeCast S80x128 zw shapeCasts_S80x128_S80x128) (Scalar.addi (base i) (BitVec.ofNat 32 (16 * t.val))))
    concatenates_S80x128_S80x128_S80x128_S80x128_S80x512_d1 rfl 128 rfl (ix2 g n) (⟨n.val / 128, by omega⟩ : Fin 4) rfl
    (ix2 g (⟨n.val % 128, by omega⟩ : Fin 128)) rfl
    (fun b hb => by
      match b with
      | ⟨0, _⟩ => rfl
      | ⟨1, _⟩ => exact absurd rfl hb)
  rw [zeros_eq, truncf_apply, subf_apply, sitofp_apply, broadcast_apply, eight]
  refine (congrArg (fun c : BitVec 32 => (((c.toInt : ℝ) : EReal) - ((8 : ℝ) : EReal))) hc).trans ?_
  have e := tile_apply (shapeCast S80x128 zw shapeCasts_S80x128_S80x128) ⟨(i 0).val % 2, Nat.mod_lt _ (by norm_num)⟩
    (⟨n.val / 128, by omega⟩ : Fin 4) g (⟨n.val % 128, by omega⟩ : Fin 128)
  simp only [base_eq]
  rw [e, ← EReal.coe_sub, shapeCast_apply zw shapeCasts_S80x128_S80x128 _ _ rfl]
  have e1 : 64 * ((i 0).val % 2) + (16 * (n.val / 128) + n.val % 128 / 8) = 64 * ((i 0).val % 2) + n.val / 8 := by omega
  have e2 : n.val % 128 % 8 = n.val % 8 := by omega
  simp only [e1, e2]

end Cert.Zeros

end
-- ==== Proof.Scratch.lean ====
/- What one grid point computes. The body writes the block's weights into a scratch buffer, 32 rows (one group) at a time,
   each row being the codes less the group's zero points, times the group's scales; then it multiplies the input by the
   whole scratch buffer. -/
module

public import proofs.«01_k».proof.Proof.Codes
public import proofs.«01_k».proof.Proof.Zeros
public import proofs.«01_k».proof.Proof.Gen.KernelIdeal.Frame
public import Idealize.ShloMosaic.Lib.Pipeline.Value

@[expose] public section

set_option maxRecDepth 16384

noncomputable section

namespace Cert.Scratch

open Idealize.ShloMosaic Idealize.ShloMosaic.ValueIdx Idealize.ShloMosaic.TcCoe Idealize.ShloMosaic.Tactic
open Cert.KernelIdeal Cert.KernelIdeal.Gen Cert.Layer Cert.Codes Cert.Zeros

/-- The weights of a block from its codes, zero points and scales: row `k` belongs to group `k / 32`. -/
def scaled (C : FVec Ideal S2560x512 .bf16) (Z S : FVec Ideal S80x512 .bf16) (y : S2560x512.Idx) : EReal :=
  (C y - Z (ix2 (⟨(y 0).val / 32, by have : (y 0).val < 2560 := (y 0).isLt; omega⟩ : Fin 80) (y 1)))
    * S (ix2 (⟨(y 0).val / 32, by have : (y 0).val < 2560 := (y 0).isLt; omega⟩ : Fin 80) (y 1))

theorem rows_slices (g : Fin 80) : S2560x512.Slices ![32 * g.val, 0] S32x512 :=
  ⟨rfl, fun a => by
    match a with
    | ⟨0, _⟩ => show 32 * g.val + 32 ≤ 2560; omega
    | ⟨1, _⟩ => show 0 + 512 ≤ 512; omega⟩

theorem row_slices (g : Fin 80) : S80x512.Slices ![g.val, 0] S1x512 :=
  ⟨rfl, fun a => by
    match a with
    | ⟨0, _⟩ => show g.val + 1 ≤ 80; omega
    | ⟨1, _⟩ => show 0 + 512 ≤ 512; omega⟩

theorem rows_inb (g : Fin 80) : ∀ a, (![32 * g.val, 0] : Fin 2 → Nat) a + S32x512.size a ≤ S2560x512.size a := (rows_slices g).2
theorem row_inb (g : Fin 80) : ∀ a, (![g.val, 0] : Fin 2 → Nat) a + S1x512.size a ≤ S80x512.size a := (row_slices g).2

/-- Group `g`'s store: the rows it goes to, and what it stores. -/
def group (arg3 : Memref sig .tc .vmem S80x512 .bf16) (harg3 : arg3.IsWhole) (C : FVec Ideal S2560x512 .bf16)
    (Z : FVec Ideal S80x512 .bf16) (S : Vec Ideal S80x512 .bf16) (g : Fin 80) : View.Piece (Elt Ideal) S2560x512 .bf16 :=
  ⟨Rect.unit (s := S2560x512) ![32 * g.val, 0] S32x512.size (rows_inb g),
    shapeCast S32x512 (mulf (F := Ideal) (φ := .bf16) (subf (F := Ideal) (φ := .bf16) (extractStridedSlice S32x512 ![32 * g.val, 0] C (rows_slices g))
      (broadcastTo S32x512 (extractStridedSlice S1x512 ![g.val, 0] Z (row_slices g)) broadcasts_S1x512_S32x512))
      (broadcastTo S32x512 (View.readAt (Elt Ideal) arg3.view (Rect.unit (s := S80x512) ![g.val, 0] S1x512.size (row_inb g)).toLoadRect
        (harg3.unread S)) broadcasts_S1x512_S32x512)) shapeCasts_S32x512_S32x512⟩

/-- It stores the weights of those rows. -/
theorem group_apply (arg3 : Memref sig .tc .vmem S80x512 .bf16) (harg3 : arg3.IsWhole) (C : FVec Ideal S2560x512 .bf16)
    (Z : FVec Ideal S80x512 .bf16) (S : Vec Ideal S80x512 .bf16) (g : Fin 80) (x : S32x512.Idx) :
    (group arg3 harg3 C Z S g).2 x = scaled C Z S ((group arg3 harg3 C Z S g).1.emb x) := by
  unfold group
  obtain ⟨r, n, rfl⟩ : ∃ (r : Fin 32) (n : Fin 512), x = (ix2 r n : S32x512.Idx) := ⟨x 0, x 1, eq_ix2 x⟩
  dsimp only
  rw [shapeCast_self, mulf_apply, subf_apply,
    extractStridedSlice_apply _ _ _ _ (ix2 (⟨32 * g.val + r.val, by omega⟩ : Fin 2560) n) (fun a => by
      match a with
      | ⟨0, _⟩ => rfl
      | ⟨1, _⟩ => exact (Nat.zero_add _).symm),
    broadcastTo_apply _ _ (ix2 r n) (ix2 (0 : Fin 1) n) (fun b => by
      match b with
      | ⟨0, _⟩ => rfl
      | ⟨1, _⟩ => rfl),
    broadcastTo_apply _ _ (ix2 r n) (ix2 (0 : Fin 1) n) (fun b => by
      match b with
      | ⟨0, _⟩ => rfl
      | ⟨1, _⟩ => rfl),
    extractStridedSlice_apply _ _ _ _ (ix2 g n) (fun a => by
      match a with
      | ⟨0, _⟩ => rfl
      | ⟨1, _⟩ => exact (Nat.zero_add _).symm),
    View.readAt_eq_ld, harg3.read_unread]
  have e1 : (Rect.unit (s := S80x512) ![g.val, 0] S1x512.size (row_inb g)).idx (ix2 (0 : Fin 1) n) = (ix2 g n : S80x512.Idx) :=
    funext fun a => by
      match a with
      | ⟨0, _⟩ => exact Fin.ext (by show g.val + 1 * 0 = g.val; omega)
      | ⟨1, _⟩ => exact Fin.ext (by show 0 + 1 * n.val = n.val; omega)
  have e2 : (Rect.unit (s := S2560x512) ![32 * g.val, 0] S32x512.size (rows_inb g)).emb (ix2 r n)
      = (ix2 (⟨32 * g.val + r.val, by omega⟩ : Fin 2560) n : S2560x512.Idx) :=
    funext fun a => by
      match a with
      | ⟨0, _⟩ => exact Fin.ext (by show 32 * g.val + 1 * r.val = 32 * g.val + r.val; omega)
      | ⟨1, _⟩ => exact Fin.ext (by show 0 + 1 * n.val = n.val; omega)
  rw [e2]
  show (C _ - Z _) * S ((Rect.unit (s := S80x512) ![g.val, 0] S1x512.size (row_inb g)).idx (ix2 (0 : Fin 1) n)) = _
  rw [e1]
  have e3 : (⟨(32 * g.val + r.val) / 32, by omega⟩ : Fin 80) = g := Fin.ext (by show (32 * g.val + r.val) / 32 = g.val; omega)
  show _ = (C _ - Z (ix2 (⟨(32 * g.val + r.val) / 32, _⟩ : Fin 80) n)) * S (ix2 (⟨(32 * g.val + r.val) / 32, _⟩ : Fin 80) n)
  rw [e3]

/-- The 80 stores, the last first. -/
def groups (arg3 : Memref sig .tc .vmem S80x512 .bf16) (harg3 : arg3.IsWhole) (C : FVec Ideal S2560x512 .bf16)
    (Z : FVec Ideal S80x512 .bf16) (S : Vec Ideal S80x512 .bf16) : List (View.Piece (Elt Ideal) S2560x512 .bf16) :=
  List.ofFn fun j : Fin 80 => group arg3 harg3 C Z S j.rev

theorem groups_cover (arg3 : Memref sig .tc .vmem S80x512 .bf16) (harg3 : arg3.IsWhole) (C : FVec Ideal S2560x512 .bf16)
    (Z : FVec Ideal S80x512 .bf16) (S : Vec Ideal S80x512 .bf16) (y : S2560x512.Idx) :
    ∃ p ∈ groups arg3 harg3 C Z S, y ∈ p.1.set := by
  have h0 : (y 0).val < 2560 := (y 0).isLt
  have h1 : (y 1).val < 512 := (y 1).isLt
  refine ⟨group arg3 harg3 C Z S ⟨(y 0).val / 32, by omega⟩, List.mem_ofFn.mpr ⟨Fin.rev ⟨(y 0).val / 32, by omega⟩, by rw [Fin.rev_rev]⟩, ?_⟩
  show y ∈ (Rect.unit (s := S2560x512) ![32 * ((y 0).val / 32), 0] S32x512.size (rows_inb ⟨(y 0).val / 32, by omega⟩)).set
  rw [Rect.mem_set_unit]
  intro a
  match a with
  | ⟨0, _⟩ => exact ⟨(by show 32 * ((y 0).val / 32) ≤ (y 0).val; omega), (by show (y 0).val < 32 * ((y 0).val / 32) + 32; omega)⟩
  | ⟨1, _⟩ => exact ⟨Nat.zero_le _, (by show (y 1).val < 0 + 512; omega)⟩

/-- After the stores the scratch buffer holds the block's weights. -/
theorem groups_canon (arg3 : Memref sig .tc .vmem S80x512 .bf16) (harg3 : arg3.IsWhole) (C : FVec Ideal S2560x512 .bf16)
    (Z : FVec Ideal S80x512 .bf16) (S : Vec Ideal S80x512 .bf16) :
    View.canon (groups arg3 harg3 C Z S) = scaled C Z S :=
  funext fun y => View.canon_apply_of_pieces (S := S2560x512) (scaled C Z S) _
    (fun p hp => by
      obtain ⟨j, rfl⟩ := List.mem_ofFn.mp hp
      exact group_apply arg3 harg3 C Z S j.rev) y (groups_cover arg3 harg3 C Z S y)

/-- The 128 words of each group that a point reads its zero points from. -/
def zeroWords (i : grid0.Coords) (z : Vec Ideal S80x1280 .i32) : Vec Ideal S80x128 .i32 :=
  View.ld (Val := Elt Ideal) (e' := .i32) z (Rect.unit (s := S80x1280) (k0_off1 i) S80x128.size (k0_off1_inb i))

/-- What a point leaves in its output block. -/
theorem out_eq (c : Dev nD) (i : grid0.Coords) (arg1 : Memref sig .tc .vmem S1536x2560 .bf16) (harg1 : arg1.IsWhole) (arg2 : Memref sig .tc .vmem S320x512 .i32) (harg2 : arg2.IsWhole) (arg3 : Memref sig .tc .vmem S80x512 .bf16) (harg3 : arg3.IsWhole) (arg4 : Memref sig .tc .vmem S80x1280 .i32) (harg4 : arg4.IsWhole) (arg5 : Memref sig .tc .vmem S1536x512 .bf16) (harg5 : arg5.IsWhole) (arg6 : Memref sig .tc .vmem S2560x512 .bf16) (harg6 : arg6.IsWhole)
    (x0 : Vec Ideal S1536x2560 .bf16) (x1 : Vec Ideal S320x512 .i32) (x2 : Vec Ideal S80x512 .bf16) (x3 : Vec Ideal S80x1280 .i32) :
    out0_A_4 (F := Ideal) c i arg1 harg1 arg2 harg2 arg3 harg3 arg4 harg4 arg5 harg5 arg6 harg6 x0 x1 x2 x3
      = k0_pay2 (F := Ideal) x0 (scaled (codes x1) (zeros i (zeroWords i x3)) x2) := by
  have hz0 : (![0, 0] : Fin S1536x2560.rank → Nat) = fun _ => 0 := funext fun a => by fin_cases a <;> rfl
  have hz1 : (![0, 0] : Fin S320x512.rank → Nat) = fun _ => 0 := funext fun a => by fin_cases a <;> rfl
  have hz4 : (![0, 0] : Fin S1536x512.rank → Nat) = fun _ => 0 := funext fun a => by fin_cases a <;> rfl
  have hz6 : (![0, 0] : Fin S2560x512.rank → Nat) = fun _ => 0 := funext fun a => by fin_cases a <;> rfl
  have l1 : View.readAt (Elt Ideal) arg2.view (Rect.unit (s := S320x512) ![0, 0] S320x512.size inb_S320x512_S320x512_0_0).toLoadRect
      (harg2.unread x1) = x1 := by rw [View.readAt_eq_ld, harg2.read_unread]; exact View.ld_unit_zero hz1 _ _
  have l3 : View.readAt (Elt Ideal) arg4.view (Rect.unit (s := S80x1280) (k0_off1 i) S80x128.size (k0_off1_inb i)).toLoadRect
      (harg4.unread x3) = zeroWords i x3 := by rw [View.readAt_eq_ld, harg4.read_unread]; rfl
  have l6 : ∀ C Z S, View.readCov arg6.view (groups arg3 harg3 C Z S)
      (Rect.unit (s := S2560x512) ![0, 0] S2560x512.size inb_S2560x512_S2560x512_0_0).toLoadRect = scaled C Z S := fun C Z S => by
    rw [View.readCov_eq_canon_ld _ _ _ (groups_cover arg3 harg3 C Z S), groups_canon]
    exact View.ld_unit_zero hz6 _ _
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_run_names
  refine (View.canon_unit_zero hz4 _ _).trans (congr (congrArg (k0_pay2 (F := Ideal)) ?_) ?_)
  · rw [View.readAt_eq_ld, harg1.read_unread]
    exact View.ld_unit_zero hz0 _ _
  · refine Eq.trans ?_ ((l6 (codes (View.readAt (Elt Ideal) arg2.view
      (Rect.unit (s := S320x512) ![0, 0] S320x512.size inb_S320x512_S320x512_0_0).toLoadRect (harg2.unread x1)))
      (zeros i (View.readAt (Elt Ideal) arg4.view (Rect.unit (s := S80x1280) (k0_off1 i) S80x128.size (k0_off1_inb i)).toLoadRect
        (harg4.unread x3))) x2).trans (by rw [l1, l3]))
    sl_kernel_rfl

end Cert.Scratch

end
-- ==== Proof.Block.lean ====
/- The kernel's result array. Point `j` of the 19 computes channels `512 j` to `512 j + 511`; its block of the result is the
   layer's output there, so the whole array is the layer's output. -/
module

public import proofs.«01_k».proof.Proof.Scratch
public import proofs.«01_k».proof.Proof.Gen.KernelIdeal.Value
public import Idealize.ShloMosaic.Lib.Pipeline.ValueKit
public import Idealize.ShloMosaic.Lib.KernelVsHost
public import Idealize.ShloMosaic.Lib.MatmulPlain

@[expose] public section

set_option maxRecDepth 16384

noncomputable section

namespace Cert.Block

open Idealize.ShloMosaic hiding ix2 ix3 eq_ix2
open Idealize.ShloMosaic.ValueIdx Idealize.ShloMosaic.TcCoe
open Cert.KernelIdeal Cert.KernelIdeal.Gen Cert.Layer Cert.Codes Cert.Zeros Cert.Scratch

/-! ## The product -/

/-- The point's last operation: input times weights, summed over the input channels. -/
theorem product_apply (x : Vec Ideal S1536x2560 .bf16) (w : Vec Ideal S2560x512 .bf16) (b : Fin 1536) (n : Fin 512) :
    k0_pay2 (F := Ideal) x w (ix2 b n) = ∑ k : Fin 2560, x (ix2 b k) * w (ix2 k n) := by
  have e := Ideal.matmul_plain_apply (M := 1536) (K := 2560) (N := 512) (φ₁ := .bf16) (φ₂ := .bf16) none x w
    (constant (F := Ideal) S1536x512 .f32 0x00000000#32) b n
  rw [constant_apply] at e
  unfold k0_pay2
  rw [truncf_apply, shapeCast_self]
  refine e.trans ?_
  show Ideal.ofBits .f32 0x00000000#32 + _ = _
  rw [Ideal.ofBits_zero_f32, zero_add]

/-! ## Where a point's blocks lie -/

/-- The grid has one axis, so a point's coordinate is its number. -/
theorem coord_eq : ∀ t : Fin grid0.N, (grid0.coords t 0).val = t.val := by decide +kernel

/-- Point `t` takes the whole input, column block `t` of the codes and scales, all zero points, and column block `t` of the result. -/
theorem index_eq : ∀ t : Fin grid0.N, win0_0.index t = ![0, 0] ∧ win0_1.index t = ![0, t.val] ∧ win0_2.index t = ![0, t.val]
    ∧ win0_3.index t = ![0, 0] ∧ win0_4.index t = ![0, t.val] := by decide +kernel

/-- Where a point starts to read zero points: a new run of 128 words every second point. -/
theorem off_eq (i : grid0.Coords) : k0_off1 i = ![0, 128 * ((i 0).val / 2)] := by
  unfold k0_off1
  generalize i 0 = j
  revert j
  show ∀ j : Fin 19, _
  decide +kernel

variable (m : (ℓ : Loc nD τ sig) → Buf (Elt Ideal) ℓ)

/-- The input as the kernel is given it: the argument, its axis of length one dropped. -/
theorem input_entry (c : Dev nD) (b : Fin 1536) (k : Fin 2560) :
    V m c main_v0 (ix2 b k) = m ((c.tc : Thread nD τ).loc main_arg0) (ix3 b (0 : Fin 1) k) := by
  have e : V m c main_v0 = shapeCast S1536x2560 (m ((c.tc : Thread nD τ).loc main_arg0)) shapeCasts_S1536x1x2560_S1536x2560 := by
    rfl
  rw [e]
  exact shapeCast_apply (s := S1536x1x2560) _ _ _ (ix3 b (0 : Fin 1) k) (by
    rw [Shape.rowMajor_val_three, Shape.rowMajor_val_two]
    show (b.val * 1 + 0) * 2560 + k.val = b.val * 2560 + k.val
    omega)

/-- The zero points as the kernel is given them: the argument, with columns added at the end. -/
theorem zeros_entry (c : Dev nD) (g : Fin 80) (w : Fin 1280) (w' : Fin 1216) (h : w.val = w'.val) :
    V m c main_v1 (ix2 g w) = m ((c.tc : Thread nD τ).loc main_arg3) (ix2 g w') := by
  have e : V m c main_v1 = pad S80x1280 ![0, 0] ![0, 64] ![0, 0] (m ((c.tc : Thread nD τ).loc main_arg3)) (constantI S_ 32 0#32)
      pads_S80x1216_S80x1280_000_0640 h_S_ := by
    rfl
  rw [e]
  exact pad_apply_of_inside _ _ _ _ _ _ _ _ (ix2 g w') (fun a => by
    match a with
    | ⟨0, _⟩ => show g.val = 0 + g.val * (0 + 1); omega
    | ⟨1, _⟩ => show w.val = 0 + w'.val * (0 + 1); omega)

/-! ## A point's blocks -/

/-- A point's input block is the whole input. -/
theorem input_block (c : Dev nD) (t : Fin cfg0.N) (b : Fin 1536) (k : Fin 2560) :
    iblk m c 0 t (ix2 b k) = m ((c.tc : Thread nD τ).loc main_arg0) (ix3 b (0 : Fin 1) k) := by
  obtain ⟨e, -, -, -, -⟩ := index_eq t
  rw [← input_entry m c]
  blk_simp [iblk]
  refine congrArg (V m c main_v0) (funext fun a => ?_)
  match a with
  | ⟨0, _⟩ => apply Fin.ext; blk_simp; rw [e]; exact Nat.zero_add _
  | ⟨1, _⟩ => apply Fin.ext; blk_simp; rw [e]; exact Nat.zero_add _

/-- Column `n` of point `t`'s block of codes is column `512 t + n` of the argument. -/
theorem codes_block (c : Dev nD) (t : Fin cfg0.N) (r : Fin 320) (n : Fin 512) (n' : Fin 9728) (h : n'.val = 512 * t.val + n.val) :
    iblk m c 1 t (ix2 r n) = m ((c.tc : Thread nD τ).loc main_arg1) (ix2 r n') := by
  obtain ⟨-, e, -, -, -⟩ := index_eq t
  rw [← V_main_arg1 m c]
  blk_simp [iblk]
  refine congrArg (V m c main_arg1) (funext fun a => ?_)
  match a with
  | ⟨0, _⟩ => apply Fin.ext; blk_simp; rw [e]; exact Nat.zero_add _
  | ⟨1, _⟩ => apply Fin.ext; blk_simp; rw [e]; show t.val * 512 + n.val = n'.val; omega

/-- Column `n` of point `t`'s block of scales is column `512 t + n` of the argument. -/
theorem scales_block (c : Dev nD) (t : Fin cfg0.N) (g : Fin 80) (n : Fin 512) (n' : Fin 9728) (h : n'.val = 512 * t.val + n.val) :
    iblk m c 2 t (ix2 g n) = m ((c.tc : Thread nD τ).loc main_arg2) (ix2 g n') := by
  obtain ⟨-, -, e, -, -⟩ := index_eq t
  rw [← V_main_arg2 m c]
  blk_simp [iblk]
  refine congrArg (V m c main_arg2) (funext fun a => ?_)
  match a with
  | ⟨0, _⟩ => apply Fin.ext; blk_simp; rw [e]; exact Nat.zero_add _
  | ⟨1, _⟩ => apply Fin.ext; blk_simp; rw [e]; show t.val * 512 + n.val = n'.val; omega

/-- Points `2 i` and `2 i + 1` read words `128 i` to `128 i + 127`. -/
theorem zeros_block (c : Dev nD) (t : Fin cfg0.N) (g : Fin 80) (w : Fin 128) (w' : Fin 1216) (h : w'.val = 128 * (t.val / 2) + w.val) :
    zeroWords (grid0.coords t) (iblk m c 3 t) (ix2 g w) = m ((c.tc : Thread nD τ).loc main_arg3) (ix2 g w') := by
  obtain ⟨-, -, -, e, -⟩ := index_eq t
  have hw : w'.val < 1280 := by omega
  have e0 : k0_off1 (grid0.coords t) = ![0, 128 * (t.val / 2)] := by rw [off_eq, coord_eq]
  rw [← zeros_entry m c g ⟨w'.val, hw⟩ w' rfl]
  show iblk m c 3 t ((Rect.unit (s := S80x1280) (k0_off1 (grid0.coords t)) S80x128.size (k0_off1_inb (grid0.coords t))).idx (ix2 g w)) = _
  blk_simp [iblk]
  refine congrArg (V m c main_v1) (funext fun a => ?_)
  match a with
  | ⟨0, _⟩ =>
    apply Fin.ext; blk_simp; rw [e]
    show 0 * 80 + (k0_off1 (grid0.coords t) 0 + 1 * g.val) = g.val
    rw [e0]
    show 0 * 80 + (0 + 1 * g.val) = g.val
    omega
  | ⟨1, _⟩ =>
    apply Fin.ext; blk_simp; rw [e]
    show 0 * 1280 + (k0_off1 (grid0.coords t) 1 + 1 * w.val) = w'.val
    rw [e0]
    show 0 * 1280 + (128 * (t.val / 2) + 1 * w.val) = w'.val
    omega

/-- The weights a point computes are the layer's. -/
theorem weights_block (c : Dev nD) (t : Fin cfg0.N) (k : Fin 2560) (n : Fin 512) (n' : Fin 9728) (h : n'.val = 512 * t.val + n.val) :
    scaled (codes (iblk m c 1 t)) (zeros (grid0.coords t) (zeroWords (grid0.coords t) (iblk m c 3 t))) (iblk m c 2 t) (ix2 k n)
      = weight (m ((c.tc : Thread nD τ).loc main_arg1)) (m ((c.tc : Thread nD τ).loc main_arg2))
          (m ((c.tc : Thread nD τ).loc main_arg3)) k n' := by
  have ht : t.val < 19 := N_0 ▸ t.isLt
  have hc := coord_eq t
  show (codes (iblk m c 1 t) (ix2 k n)
      - zeros (grid0.coords t) (zeroWords (grid0.coords t) (iblk m c 3 t)) (ix2 (⟨k.val / 32, by omega⟩ : Fin 80) n))
      * iblk m c 2 t (ix2 (⟨k.val / 32, by omega⟩ : Fin 80) n) = _
  rw [codes_apply, zeros_apply, codes_block m c t _ n n' h, scales_block m c t _ n n' h,
    zeros_block m c t _ _ ⟨n'.val / 8, by omega⟩ (by
      show n'.val / 8 = 128 * (t.val / 2) + (64 * ((grid0.coords t 0).val % 2) + n.val / 8)
      rw [hc]; omega),
    ← EReal.coe_sub]
  have e8 : n'.val % 8 = n.val % 8 := by omega
  unfold weight
  rw [e8]
  congr 2
  push_cast
  ring

/-! ## The result -/

/-- The kernel's result array is the layer's output. -/
theorem final_value (c : Dev nD) : (dats m 0 c).arrAt 4 cfg0.N
    = layer (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 4 _ (by decide +kernel) fun t hf y => ?_
  have ht : t.val < 19 := N_0 ▸ t.isLt
  obtain ⟨-, -, -, -, e⟩ := index_eq t
  obtain ⟨b, n, rfl⟩ : ∃ (b : Fin 1536) (n : Fin 512), y = (ix2 b n : S1536x512.Idx) := ⟨y 0, y 1, eq_ix2 (n0 := 1536) (n1 := 512) y⟩
  have hy : ((cfg0.win 4).blk t).view.emb (ix2 b n : S1536x512.Idx) = (ix2 b (⟨512 * t.val + n.val, by omega⟩ : Fin 9728) : S1536x9728.Idx) :=
    funext fun a => by
      match a with
      | ⟨0, _⟩ => apply Fin.ext; blk_simp; rw [e]; exact Nat.zero_add _
      | ⟨1, _⟩ => apply Fin.ext; blk_simp; rw [e]; show t.val * 512 + n.val = 512 * t.val + n.val; omega
  refine Eq.trans ?_ (congrArg _ hy).symm
  blk_simp
  rw [after0_4]
  unfold outsAt0
  rw [out_eq]
  refine (product_apply _ _ b n).trans ?_
  refine Finset.sum_congr rfl fun k _ => ?_
  rw [input_block, weights_block m c t k n ⟨512 * t.val + n.val, by omega⟩ rfl]

end Cert.Block

end
-- ==== Proof.RefValue.lean ====
/- What the reference computes: `Cert.Layer.layer`. Its operations are read at an index one by one; its sum over the
   input channels is the layer's in another order (`Cert.Layer.channel`). -/
module

public import proofs.«01_k».proof.Proof.Spec
public import proofs.«01_k».proof.Proof.Gen.ReferenceIdeal.Read

@[expose] public section

noncomputable section

namespace Cert.RefValue

open Idealize.ShloMosaic Idealize.ShloMosaic.ValueIdx Cert.ReferenceIdeal Cert.ReferenceIdeal.Read Cert.Layer

/-- The reference's shift amount for code `p` is `4 p`, below the width. -/
theorem host_shift_toInt (w : BitVec 32) (p : ℕ) (hp : p < 8) :
    (IntOp.andi (IntOp.shrsi .host w (IntOp.muli 4#32 (BitVec.ofNat 32 p))) 15#32).toInt = (nib w p : ℤ) := by
  have hm : (IntOp.muli 4#32 (BitVec.ofNat 32 p)).toNat = 4 * p := by
    show (4#32 * BitVec.ofNat 32 p).toNat = _
    rw [BitVec.toNat_mul, BitVec.toNat_ofNat]; simp only [BitVec.toNat_ofNat]; omega
  rw [← shift_and_toInt w p hp]
  unfold IntOp.shrsi
  rw [if_pos (by rw [hm]; omega)]
  show (w.sshiftRight' _ &&& 15#32).toInt = _
  rw [BitVec.sshiftRight', hm]

variable (x0 : (⟨S1536x1x2560, .bf16⟩ : BufTy).Contents (Elt Ideal)) (x1 : (⟨S320x9728, .i32⟩ : BufTy).Contents (Elt Ideal))
  (x2 : (⟨S80x9728, .bf16⟩ : BufTy).Contents (Elt Ideal)) (x3 : (⟨S80x1216, .i32⟩ : BufTy).Contents (Elt Ideal))

/-- The zero point of group `g` and output channel `n`. -/
theorem zeros_apply (g : Fin 80) (n : Fin 9728) :
    val_main_v11 (F := Ideal) x3 (ix2 g n)
      = (((nib (x3 (ix2 g (⟨n.val / 8, by omega⟩ : Fin 1216))) (n.val % 8) : ℤ) : ℝ) : EReal) := by
  rw [val_main_v11_apply, val_main_v10_apply, val_main_v9_apply, val_main_v7_apply, val_main_v5_apply, val_main_v3_apply,
    val_main_v6_apply, val_main_v4_apply, val_main_v2_apply, val_main_v1_apply, val_main_c_apply, val_main_v0_apply,
    val_main_v8_apply, val_main_c_0_apply]
  have hg := g.isLt
  have hn := n.isLt
  have e : idx_main_v3 (idx_main_v5 (idx_main_v10 (ix2 g n))) = ix2 g (⟨n.val / 8, by omega⟩ : Fin 1216) := by
    funext a
    match a with
    | ⟨0, _⟩ => apply Fin.ext; show (g.val * 9728 + n.val) / 9728 = g.val; omega
    | ⟨1, _⟩ => apply Fin.ext; show (g.val * 9728 + n.val) / 8 % 1216 = n.val / 8; omega
  have ep : (g.val * 9728 + n.val) % 8 = n.val % 8 := by omega
  rw [e]
  show ((((IntOp.andi (IntOp.shrsi .host _ (IntOp.muli 4#32 (BitVec.ofNat 32 ((g.val * 9728 + n.val) % 8)))) 15#32).toInt : ℤ) : ℝ) : EReal) = _
  rw [ep, host_shift_toInt _ _ (Nat.mod_lt _ (by norm_num))]

/-- Code `p` of word `r` of output channel `n`. -/
theorem codes_apply (p : Fin 8) (r : Fin 320) (n : Fin 9728) :
    val_main_v19 (F := Ideal) x1 (ix3 p r n) = (((nib (x1 (ix2 r n)) p.val : ℤ) : ℝ) : EReal) := by
  rw [val_main_v19_apply, val_main_v18_apply, val_main_v16_apply, val_main_v14_apply, val_main_v12_apply,
    val_main_v15_apply, val_main_v13_apply, val_main_v2_apply, val_main_v1_apply, val_main_c_apply, val_main_v0_apply,
    val_main_v17_apply, val_main_c_1_apply]
  have e : idx_main_v12 (idx_main_v14 (ix3 p r n)) = ix2 r n := by
    funext a
    match a with
    | ⟨0, _⟩ => rfl
    | ⟨1, _⟩ => rfl
  rw [e]
  show ((((IntOp.andi (IntOp.shrsi .host _ (IntOp.muli 4#32 (BitVec.ofNat 32 p.val))) 15#32).toInt : ℤ) : ℝ) : EReal) = _
  rw [host_shift_toInt _ _ p.isLt]

/-- Row `k` of the reference's weights is the row of channel `channel k`. -/
theorem weights_apply (k : Fin 2560) (n : Fin 9728) :
    val_main_v27 (F := Ideal) x1 x2 x3 (ix2 k n) = weight x1 x2 x3 (channel k) n := by
  have hk := k.isLt
  have hn := n.isLt
  have e27 : idx_main_v27 (ix2 k n)
      = ix4 (⟨k.val / 320, by omega⟩ : Fin 8) (⟨k.val % 320 / 4, by omega⟩ : Fin 80) (⟨k.val % 4, by omega⟩ : Fin 4) n := by
    funext a
    match a with
    | ⟨0, _⟩ => apply Fin.ext; show (k.val * 9728 + n.val) / 3112960 = k.val / 320; omega
    | ⟨1, _⟩ => apply Fin.ext; show (k.val * 9728 + n.val) / 38912 % 80 = k.val % 320 / 4; omega
    | ⟨2, _⟩ => apply Fin.ext; show (k.val * 9728 + n.val) / 9728 % 4 = k.val % 4; omega
    | ⟨3, _⟩ => apply Fin.ext; show (k.val * 9728 + n.val) % 9728 = n.val; omega
  rw [val_main_v27_apply, e27, val_main_v26_apply, val_main_v23_apply, val_main_v20_apply, val_main_v22_apply,
    val_main_v21_apply, val_main_v25_apply, val_main_v24_apply]
  generalize hp : (⟨k.val / 320, by omega⟩ : Fin 8) = p
  generalize hg : (⟨k.val % 320 / 4, by omega⟩ : Fin 80) = g
  generalize hr : (⟨k.val % 4, by omega⟩ : Fin 4) = r
  have hp' : k.val / 320 = p.val := congrArg Fin.val hp
  have hg' : k.val % 320 / 4 = g.val := congrArg Fin.val hg
  have hr' : k.val % 4 = r.val := congrArg Fin.val hr
  have hpl := p.isLt
  have hgl := g.isLt
  have hrl := r.isLt
  have e20 : idx_main_v20 (ix4 p g r n) = ix3 p (⟨4 * g.val + r.val, by omega⟩ : Fin 320) n := by
    funext a
    match a with
    | ⟨0, _⟩ => apply Fin.ext; show (((p.val * 80 + g.val) * 4 + r.val) * 9728 + n.val) / 3112960 = p.val; omega
    | ⟨1, _⟩ => apply Fin.ext; show (((p.val * 80 + g.val) * 4 + r.val) * 9728 + n.val) / 9728 % 320 = 4 * g.val + r.val; omega
    | ⟨2, _⟩ => apply Fin.ext; show (((p.val * 80 + g.val) * 4 + r.val) * 9728 + n.val) % 9728 = n.val; omega
  have e21 : idx_main_v21 (idx_main_v22 (ix4 p g r n)) = ix2 g n := by
    funext a
    match a with
    | ⟨0, _⟩ => rfl
    | ⟨1, _⟩ => rfl
  have e24 : idx_main_v24 (idx_main_v25 (ix4 p g r n)) = ix2 g n := by
    funext a
    match a with
    | ⟨0, _⟩ => rfl
    | ⟨1, _⟩ => rfl
  rw [e20, e21, e24, codes_apply, zeros_apply]
  have hc : (channel k).val = 8 * (4 * g.val + r.val) + p.val := by
    show 8 * (k.val % 320) + k.val / 320 = _; omega
  have eq1 : (⟨4 * g.val + r.val, by omega⟩ : Fin 320) = ⟨(channel k).val / 8, by omega⟩ := Fin.ext (by show 4 * g.val + r.val = (channel k).val / 8; omega)
  have eg : g = (⟨(channel k).val / 32, by omega⟩ : Fin 80) := Fin.ext (by show g.val = (channel k).val / 32; omega)
  have ep : p.val = (channel k).val % 8 := by omega
  unfold weight
  rw [← eq1, ← eg, ← ep]
  show ((_ : EReal) - _) * _ = _
  rw [← EReal.coe_sub, ← Int.cast_sub]

/-- Entry `k` of the reference's reordered input row is channel `channel k`. -/
theorem input_apply (b : Fin 1536) (k : Fin 2560) :
    val_main_v30 (F := Ideal) x0 (ix3 b (0 : Fin 1) k) = x0 (ix3 b (0 : Fin 1) (channel k)) := by
  rw [val_main_v30_apply, val_main_v29_apply, val_main_v28_apply]
  have hk := k.isLt
  have hb := b.isLt
  have e30 : idx_main_v30 (ix3 b (0 : Fin 1) k)
      = ix4 b (0 : Fin 1) (⟨k.val / 320, by omega⟩ : Fin 8) (⟨k.val % 320, by omega⟩ : Fin 320) := by
    funext a
    match a with
    | ⟨0, _⟩ => apply Fin.ext; show ((b.val * 1 + 0) * 2560 + k.val) / 2560 = b.val; omega
    | ⟨1, _⟩ => rfl
    | ⟨2, _⟩ => apply Fin.ext; show ((b.val * 1 + 0) * 2560 + k.val) / 320 % 8 = k.val / 320; omega
    | ⟨3, _⟩ => apply Fin.ext; show ((b.val * 1 + 0) * 2560 + k.val) % 320 = k.val % 320; omega
  rw [e30]
  congr 1
  funext a
  match a with
  | ⟨0, _⟩ => apply Fin.ext; show (((b.val * 1 + 0) * 320 + k.val % 320) * 8 + k.val / 320) / 2560 = b.val; omega
  | ⟨1, _⟩ => rfl
  | ⟨2, _⟩ => apply Fin.ext; show (((b.val * 1 + 0) * 320 + k.val % 320) * 8 + k.val / 320) % 2560 = 8 * (k.val % 320) + k.val / 320; omega

/-- The reference computes the layer. -/
theorem reference_eq : val_main_v33 (F := Ideal) x0 x1 x2 x3 = layer x0 x1 x2 x3 := by
  funext i
  obtain ⟨b, n, rfl⟩ : ∃ (b : Fin 1536) (n : Fin 9728), i = ix2 b n := ⟨i 0, i 1, eq_ix2 i⟩
  have hb := b.isLt
  have hn := n.isLt
  rw [val_main_v33_apply, val_main_v32_apply]
  show val_main_v31 (F := Ideal) x0 x1 x2 x3 _ = _
  rw [val_main_v31_apply]
  show _ = ∑ k : Fin 2560, x0 (ix3 b (0 : Fin 1) k) * weight x1 x2 x3 k n
  rw [← Equiv.sum_comp channel (fun k => x0 (ix3 b (0 : Fin 1) k) * weight x1 x2 x3 k n)]
  refine Finset.sum_congr rfl fun k _ => ?_
  have el : lidx_main_v31 (idx_main_v33 (ix2 b n)) k = ix3 b (0 : Fin 1) k := by
    funext a
    match a with
    | ⟨0, _⟩ => apply Fin.ext; show (b.val * 9728 + n.val) / 9728 = b.val; omega
    | ⟨1, _⟩ => rfl
    | ⟨2, _⟩ => rfl
  have er : ridx_main_v31 (idx_main_v33 (ix2 b n)) k = ix2 k n := by
    funext a
    match a with
    | ⟨0, _⟩ => rfl
    | ⟨1, _⟩ => apply Fin.ext; show (b.val * 9728 + n.val) % 9728 = n.val; omega
  rw [el, er, input_apply, weights_apply]

end Cert.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Block
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The reference has no semaphores, so none of them is left raised. -/
theorem reference_frame : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- From equal arguments, kernel and reference both end with the layer's output. -/
theorem algebraic : Cert.algebraic_KernelIdeal_ReferenceIdeal := by
  intro m g m' g' _ hargs
  refine ⟨fun c => Layer.layer (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)), ?_, ?_⟩
  · exact (θ_run _ _ _).mono (fun r h c => ⟨(h c).1.trans (Block.final_value m c), (h c).2⟩)
      (Cert.KernelIdeal.Value.run_blocks (F := Ideal) m g)
  · refine (θ_run _ _ _).mono (fun r h c => ⟨?_, (h c).2⟩) (Cert.ReferenceIdeal.Value.run (F := Ideal) m' g')
    obtain ⟨e0, e1, e2, e3⟩ := hargs c
    refine ((h c).1.trans (Cert.ReferenceIdeal.Read.val_main_v33_eq _ _ _ _)).trans ((RefValue.reference_eq _ _ _ _).trans ?_)
    rw [e0, e1, e2, e3]

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, algebraic⟩

end Cert.Proof

end
